-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x32768 : Shape := ⟨2, ![128, 32768]⟩
abbrev S_ : Shape := ⟨0, ![]⟩
abbrev S512x512 : Shape := ⟨2, ![512, 512]⟩
abbrev S128x8192 : Shape := ⟨2, ![128, 8192]⟩
abbrev S128x8 : Shape := ⟨2, ![128, 8]⟩
abbrev S128x1 : Shape := ⟨2, ![128, 1]⟩
abbrev S128x512 : Shape := ⟨2, ![128, 512]⟩
abbrev S128 : Shape := ⟨1, ![128]⟩

abbrev nBuf : Space → Nat
  | .hbm => 13
  | .vmem => 6
  | .smem => 0
  | _ => 0

abbrev bufTy : (tb : Table) → Fin (tcTables nBuf tb) → BufTy
  | .hbm, ⟨0, _⟩ => ⟨S128x32768, .f32⟩
  | .hbm, ⟨1, _⟩ => ⟨S_, .bf16⟩
  | .hbm, ⟨2, _⟩ => ⟨S512x512, .bf16⟩
  | .hbm, ⟨3, _⟩ => ⟨S512x512, .i32⟩
  | .hbm, ⟨4, _⟩ => ⟨S_, .i32⟩
  | .hbm, ⟨5, _⟩ => ⟨S512x512, .i32⟩
  | .hbm, ⟨6, _⟩ => ⟨S512x512, .i32⟩
  | .hbm, ⟨7, _⟩ => ⟨S512x512, .i32⟩
  | .hbm, ⟨8, _⟩ => ⟨S512x512, .i1⟩
  | .hbm, ⟨9, _⟩ => ⟨S_, .bf16⟩
  | .hbm, ⟨10, _⟩ => ⟨S512x512, .bf16⟩
  | .hbm, ⟨11, _⟩ => ⟨S512x512, .bf16⟩
  | .hbm, ⟨12, _⟩ => ⟨S128x32768, .f32⟩
  | .local _ .vmem, ⟨0, _⟩ => ⟨S128x8192, .f32⟩
  | .local _ .vmem, ⟨1, _⟩ => ⟨S128x8192, .f32⟩
  | .local _ .vmem, ⟨2, _⟩ => ⟨S512x512, .bf16⟩
  | .local _ .vmem, ⟨3, _⟩ => ⟨S128x8192, .f32⟩
  | .local _ .vmem, ⟨4, _⟩ => ⟨S128x8192, .f32⟩
  | .local _ .vmem, ⟨5, _⟩ => ⟨S128x8, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S128x32768 : Shape := ⟨2, ![128, 32768]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S_, .f32⟩
  | .hbm, ⟨2, _⟩ => ⟨S_, .f32⟩
  | .hbm, ⟨3, _⟩ => ⟨S128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Scan.Steps.lean ====
/-
  One column group of the body, over the extended reals.

  The body walks its [128, 8192] block in groups of 512 columns. A group's output is the product of the group with the
  upper triangle of ones, plus the running row sums; the next running row sums add the group's own row sums. Here both
  are read at an index, against a table `f` of the rows' elements indexed by natural numbers: if the running sums are
  the sums of the first `n` elements of each row, the group's output at column `q` is the sum of the first `n + q + 1`,
  and the next running sums are those of the first `n + 512`.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Scan

open Cert.KernelIdeal Cert.KernelIdeal.Gen Idealize.ShloMosaic

/-- A group's output: the group times the triangle, plus the running row sums in every column. -/
def groupOut (u : FVec Ideal S512x512 .bf16) (p : FVec Ideal S128x1 .f32) (x : Vec Ideal S128x512 .f32) : FVec Ideal S128x512 .f32 :=
  addf (matmul dot_S128x512_S512x512_S128x512_1_0_0_1_n_n none (truncf .bf16 x bitsLt_bf16_f32) u
    (constant S128x512 .f32 0x00000000#32)) (broadcastTo S128x512 p broadcasts_S128x1_S128x512)

/-- The running row sums after a group: those before it plus the group's row sums. -/
def groupSum (p : FVec Ideal S128x1 .f32) (x : Vec Ideal S128x512 .f32) : FVec Ideal S128x1 .f32 :=
  addf p (shapeCast S128x1 (multiReduction .add [1] S128 x 0x00000000#32 reduces_S128x512_S128 (.inl rfl) rfl)
    shapeCasts_S128_S128x1)

/-- The column `p` holds, in row `r`, the sum of the first `n` elements of row `r` of the table `f`. -/
structure Sums (f : ℕ → ℕ → EReal) (n : ℕ) (p : Vec Ideal S128x1 .f32) : Prop where
  apply : ∀ r : Fin 128, p (ix2 r (0 : Fin 1)) = ∑ k ∈ Finset.range n, f r.val k

/-- The group `x` holds the table's columns `n`, …, `n + 511`. -/
def Holds (f : ℕ → ℕ → EReal) (n : ℕ) (x : Vec Ideal S128x512 .f32) : Prop :=
  ∀ (r : Fin 128) (l : Fin 512), x (ix2 r l) = f r.val (n + l.val)

/-- The matrix `u` is the upper triangle of ones, its diagonal included. -/
def Triangle (u : Vec Ideal S512x512 .bf16) : Prop :=
  ∀ a b : Fin 512, u (ix2 a b) = if a.val ≤ b.val then (1 : EReal) else 0

/-- The sum of `512` consecutive elements from `n` onwards, cut after place `q`, with the first `n` in front. -/
theorem sum_cut (g : ℕ → EReal) (n : ℕ) (q : Fin 512) :
    (∑ k : Fin 512, g (n + k.val) * (if k.val ≤ q.val then (1 : EReal) else 0)) + ∑ k ∈ Finset.range n, g k
      = ∑ k ∈ Finset.range (n + q.val + 1), g k := by
  have hq := q.isLt
  rw [Fin.sum_univ_eq_sum_range (fun k => g (n + k) * (if k ≤ q.val then (1 : EReal) else 0)) 512, add_comm, Nat.add_assoc,
    Finset.sum_range_add]
  refine congrArg _ ?_
  simp only [mul_ite, mul_one, mul_zero]
  rw [← Finset.sum_filter]
  refine Finset.sum_congr (Finset.ext fun k => ?_) fun _ _ => rfl
  rw [Finset.mem_filter, Finset.mem_range, Finset.mem_range]
  omega

/-- A group's output at column `q`: the sum of the row's elements up to and including that column. -/
theorem groupOut_apply {f : ℕ → ℕ → EReal} {n : ℕ} {u : Vec Ideal S512x512 .bf16} {p : Vec Ideal S128x1 .f32}
    {x : Vec Ideal S128x512 .f32} (hu : Triangle u) (hp : Sums f n p) (hx : Holds f n x) (r : Fin 128) (q : Fin 512) :
    groupOut u p x (ix2 r q) = ∑ k ∈ Finset.range (n + q.val + 1), f r.val k := by
  rw [← sum_cut (f r.val) n q]
  unfold groupOut
  pointwise
  rw [hp.apply r]
  exact congrArg (· + _) (Finset.sum_congr rfl fun k _ => by rw [hx r k, hu k q])

/-- The running sums after a group that starts at column `n` are those of the first `n + 512` elements. -/
theorem groupSum_sums {f : ℕ → ℕ → EReal} {n : ℕ} {p : Vec Ideal S128x1 .f32} {x : Vec Ideal S128x512 .f32}
    (hp : Sums f n p) (hx : Holds f n x) : Sums f (n + 512) (groupSum p x) := by
  refine ⟨fun r => ?_⟩
  unfold groupSum
  pointwise
  rw [hp.apply r, Finset.sum_range_add, ← Fin.sum_univ_eq_sum_range (fun k => f r.val (n + k)) 512]
  exact congrArg (_ + ·) (Finset.sum_congr rfl fun k _ => hx r k)

end Cert.KernelIdeal.Scan
-- ==== Proof.Scan.Body.lean ====
/-
  The body's values over the extended reals: what one grid point leaves in its output block and in the scratch column,
  read at an index. The block starts at column `n` of the array. If the scratch column holds the sums of the first `n`
  elements of each row, the output block at column `q` holds the sum of the first `n + q + 1`, and the scratch column is
  left with the sums of the first `n + 8192`.
-/
module

public import proofs.«01_k».proof.Proof.Scan.Steps
public import Idealize.ShloMosaic.Lib.WritesUnit

@[expose] public section

set_option maxRecDepth 16384

noncomputable section

namespace Cert.KernelIdeal.Scan

open Cert.KernelIdeal Cert.KernelIdeal.Gen Idealize.ShloMosaic Idealize.ShloMosaic.TcCoe Idealize.SL.Sem

variable {f : ℕ → ℕ → EReal} {n : ℕ}

/-- The block `x` holds the table's columns `n`, …, `n + 8191`. -/
def Block (f : ℕ → ℕ → EReal) (n : ℕ) (x : Vec Ideal S128x8192 .f32) : Prop :=
  ∀ (r : Fin 128) (l : Fin 8192), x (ix2 r l) = f r.val (n + l.val)

/-- The running sums of a block that starts at column `n`. -/
def sums (f : ℕ → ℕ → EReal) (n : ℕ) (y : S128x8192.Idx) : Elt Ideal .f32 :=
  ∑ k ∈ Finset.range (n + (y 1).val + 1), f (y 0).val k

/-- A load of 512 columns of the block, from `off` on, holds the table's columns from `n + off` on. -/
theorem holds_load {x : Vec Ideal S128x8192 .f32} (hx : Block f n x) {arg : Memref sig .tc .vmem S128x8192 .f32}
    (harg : arg.IsWhole) {off : ℕ} (inb : ∀ a, (![0, off] : Fin 2 → ℕ) a + S128x512.size a ≤ S128x8192.size a) :
    Holds f (n + off) (View.readAt (Elt Ideal) arg.view (Rect.unit (s := S128x8192) ![0, off] S128x512.size inb).toLoadRect (harg.unread x)) := by
  intro r l
  have hoff : off + 512 ≤ 8192 := inb 1
  have hl := l.isLt
  rw [View.readAt_eq_ld, Memref.IsWhole.read_unread, Nat.add_assoc]
  refine (View.ld_unit_apply_of x _ _ inb _ (ix2 r ⟨off + l.val, by omega⟩) fun a => ?_).trans (hx _ _)
  match a with
  | ⟨0, _⟩ => exact (Nat.zero_add _).symm
  | ⟨1, _⟩ => rfl

/-- The triangle as the body loads it, all of it and at its own shape, is the triangle it was given. -/
theorem triangle_load {u : Vec Ideal S512x512 .bf16} (hu : Triangle u) {arg : Memref sig .tc .vmem S512x512 .bf16}
    (harg : arg.IsWhole) (inb : ∀ a, (![0, 0] : Fin 2 → ℕ) a + S512x512.size a ≤ S512x512.size a) :
    Triangle (k0_pay6 (View.readAt (Elt Ideal) arg.view (Rect.unit (s := S512x512) ![0, 0] S512x512.size inb).toLoadRect (harg.unread u))) := by
  have hz : (![0, 0] : Fin 2 → ℕ) = fun _ => 0 := funext fun a => by fin_cases a <;> rfl
  rw [View.readAt_eq_ld, Memref.IsWhole.read_unread, View.ld_unit_zero hz]
  intro a b
  rw [← hu a b]
  unfold k0_pay6
  pointwise

/-- A group's output stored at column `off` of the block is the block's running sums there. -/
theorem piece_sums {u : FVec Ideal S512x512 .bf16} {p : FVec Ideal S128x1 .f32} {x : Vec Ideal S128x512 .f32} {off : ℕ}
    (hu : Triangle u) (hp : Sums f (n + off) p) (hx : Holds f (n + off) x)
    (inb : ∀ a, (![0, off] : Fin 2 → ℕ) a + (![128, 512] : Fin 2 → ℕ) a ≤ S128x8192.size a)
    (y : S128x512.Idx) : groupOut u p x y = sums f n ((Rect.unit (s := S128x8192) ![0, off] ![128, 512] inb).emb y) := by
  obtain ⟨r, q, rfl⟩ : ∃ r q, y = ix2 r q := ⟨_, _, eq_ix2 y⟩
  rw [groupOut_apply hu hp hx]
  have e0 : ((Rect.unit (s := S128x8192) ![0, off] ![128, 512] inb).emb (ix2 r q) 0).val = r.val :=
    (Rect.idx_unit_val _ _ inb _ 0).trans (Nat.zero_add _)
  have e1 : ((Rect.unit (s := S128x8192) ![0, off] ![128, 512] inb).emb (ix2 r q) 1).val = off + q.val :=
    Rect.idx_unit_val _ _ inb _ 1
  unfold sums
  rw [e0, e1, ← Nat.add_assoc]

/-- The scratch array holds, in its first column, the sums of the first `n` elements of each row. -/
def Carry (f : ℕ → ℕ → EReal) (n : ℕ) (s : Vec Ideal S128x8 .f32) : Prop :=
  ∀ r : Fin 128, s (ix2 r (0 : Fin 8)) = ∑ k ∈ Finset.range n, f r.val k

/-- The scratch column read back after it was cleared: the sums of no elements. -/
theorem sums_cleared (hn : n = 0) (v : View sig .tc .vmem S128x8 .f32) (inb : ∀ a, (![0, 0] : Fin 2 → ℕ) a + S128x8.size a ≤ S128x8.size a)
    (inb' : ∀ a, (![0, 0] : Fin 2 → ℕ) a + S128x1.size a ≤ S128x8.size a) :
    Sums f n (v.readCov [(⟨Rect.unit (s := S128x8) ![0, 0] S128x8.size inb, k0_pay5 (F := Ideal)⟩ : View.Piece (Elt Ideal) S128x8 .f32)]
      (Rect.unit (s := S128x8) ![0, 0] S128x1.size inb').toLoadRect) := by
  have hz : (![0, 0] : Fin 2 → ℕ) = fun _ => 0 := funext fun a => by fin_cases a <;> rfl
  subst hn
  refine ⟨fun r => ?_⟩
  rw [View.readCov_eq_canon_ld _ _ _ fun y => ⟨_, List.mem_singleton_self _, by
    rw [Rect.mem_set_unit]
    intro a
    rw [hz, Nat.zero_add]
    exact ⟨Nat.zero_le _, (y a).isLt⟩⟩, View.canon_unit_zero hz]
  unfold k0_pay5
  pointwise
  simp [Ideal.ofBits, Ideal.ieee]

/-- The scratch column read as the point before left it. -/
theorem sums_kept {s : Vec Ideal S128x8 .f32} (hs : Carry f n s) {arg : Memref sig .tc .vmem S128x8 .f32} (harg : arg.IsWhole)
    (inb : ∀ a, (![0, 0] : Fin 2 → ℕ) a + S128x1.size a ≤ S128x8.size a) :
    Sums f n (View.readAt (Elt Ideal) arg.view (Rect.unit (s := S128x8) ![0, 0] S128x1.size inb).toLoadRect (harg.unread s)) := by
  refine ⟨fun r => ?_⟩
  rw [View.readAt_eq_ld, Memref.IsWhole.read_unread]
  refine (View.ld_unit_apply_of s _ _ inb _ (ix2 r (0 : Fin 8)) fun a => ?_).trans (hs r)
  match a with
  | ⟨0, _⟩ => exact (Nat.zero_add _).symm
  | ⟨1, _⟩ => rfl

/-- A column stored last over the scratch array's first column is what that column then holds. -/
theorem carry_stored {p : FVec Ideal S128x1 .f32} (hp : Sums f n p) (v : View sig .tc .vmem S128x8 .f32) (g : v.ty.Contents (Elt Ideal))
    (L : List (View.Piece (Elt Ideal) S128x8 .f32)) (inb : ∀ a, (![0, 0] : Fin 2 → ℕ) a + S128x1.size a ≤ S128x8.size a) :
    Carry f n (v.read (Elt Ideal) (v.writes (Elt Ideal) g (⟨Rect.unit (s := S128x8) ![0, 0] S128x1.size inb, p⟩ :: L))) := by
  intro r
  refine (View.read_writes_cons_unit_of_mem v g inb p L (ix2 r (0 : Fin 8)) (ix2 r (0 : Fin 1)) rfl fun a => ?_).trans (hp.apply r)
  match a with
  | ⟨0, _⟩ => exact (Nat.zero_add _).symm
  | ⟨1, _⟩ => rfl

/-- A column cast to its own shape is the column. -/
theorem sums_cast {p : FVec Ideal S128x1 .f32} (hp : Sums f n p) : Sums f n (shapeCast S128x1 p shapeCasts_S128x1_S128x1) := by
  refine ⟨fun r => ?_⟩
  rw [← hp.apply r]
  pointwise

section
variable (c : Dev nD) (i : grid0.Coords) (arg1 : Memref sig .tc .vmem S128x8192 .f32) (harg1 : arg1.IsWhole)
  (arg2 : Memref sig .tc .vmem S512x512 .bf16) (harg2 : arg2.IsWhole) (arg3 : Memref sig .tc .vmem S128x8192 .f32) (harg3 : arg3.IsWhole)
  (arg4 : Memref sig .tc .vmem S128x8 .f32) (harg4 : arg4.IsWhole)

/-- The output block of the first point, which clears the scratch array: its block starts the rows. -/
theorem out_first (hc0 : cond0_0 i) (x0 : Vec Ideal S128x8192 .f32) (x1 : Vec Ideal S512x512 .bf16) (hx : Block f n x0)
    (hu : Triangle x1) (hn : n = 0) :
    out0_A_2 c i arg1 harg1 arg2 harg2 arg3 harg3 arg4 harg4 hc0 x0 x1 = sums f n := by
  have hU := triangle_load hu harg2
  have hX := fun off => @holds_load f n x0 hx arg1 harg1 off
  have h0 := sums_cleared (f := f) hn arg4.view inb_S128x8_S128x8_0_0 inb_S128x8_S128x1_0_0
  have cov := cover0_A_2 (F := Ideal) c i arg1 harg1 arg2 harg2 arg3 harg3 arg4 harg4 hc0 x0 x1
  unfold out0_A_2
  rw [View.read_writes_eq_canon _ _ _ cov]
  refine funext fun y => View.canon_apply_of_pieces (sums f n) _ ?_ y (cov y)
  unfold kernelRun0_A
  dsimp only
  sl_unfold_words
  simp only [List.forall_mem_cons]
  refine ⟨?_, ?_, ?_, ?_, ?_, ?_, ?_, ?_, ?_, ?_, ?_, ?_, ?_, ?_, ?_, ?_, fun _ h => absurd h List.not_mem_nil⟩ <;> intro y
  all_goals refine piece_sums (hU _) ?_ (hX _ _) _ y
  all_goals repeat first
    | exact h0
    | refine groupSum_sums (n := _) ?_ (hX _ _)

/-- The output block of a later point, which finds the scratch array as the point before left it. -/
theorem out_later (hc0 : ¬cond0_0 i) (x0 : Vec Ideal S128x8192 .f32) (x1 : Vec Ideal S512x512 .bf16) (xs0 : Vec Ideal S128x8 .f32)
    (hx : Block f n x0) (hu : Triangle x1) (hs : Carry f n xs0) :
    out0_B_2 c i arg1 harg1 arg2 harg2 arg3 harg3 arg4 harg4 hc0 x0 x1 xs0 = sums f n := by
  have hU := triangle_load hu harg2
  have hX := fun off => @holds_load f n x0 hx arg1 harg1 off
  have h0 := sums_kept hs harg4 inb_S128x8_S128x1_0_0
  have cov := cover0_B_2 (F := Ideal) c i arg1 harg1 arg2 harg2 arg3 harg3 arg4 harg4 hc0 x0 x1 xs0
  unfold out0_B_2
  rw [View.read_writes_eq_canon _ _ _ cov]
  refine funext fun y => View.canon_apply_of_pieces (sums f n) _ ?_ y (cov y)
  unfold kernelRun0_B
  dsimp only
  sl_unfold_words
  simp only [List.forall_mem_cons]
  refine ⟨?_, ?_, ?_, ?_, ?_, ?_, ?_, ?_, ?_, ?_, ?_, ?_, ?_, ?_, ?_, ?_, fun _ h => absurd h List.not_mem_nil⟩ <;> intro y
  all_goals refine piece_sums (hU _) ?_ (hX _ _) _ y
  all_goals repeat first
    | exact h0
    | refine groupSum_sums (n := _) ?_ (hX _ _)

/-- The first point leaves in the scratch array the sums up to the end of its block. -/
theorem carry_first (hc0 : cond0_0 i) (x0 : Vec Ideal S128x8192 .f32) (x1 : Vec Ideal S512x512 .bf16) (hx : Block f n x0) (hn : n = 0) :
    Carry f (n + 8192) (sout0_A_0 c i arg1 harg1 arg2 harg2 arg3 harg3 arg4 harg4 hc0 x0 x1) := by
  have hX := fun off => @holds_load f n x0 hx arg1 harg1 off
  have h0 := sums_cleared (f := f) hn arg4.view inb_S128x8_S128x8_0_0 inb_S128x8_S128x1_0_0
  unfold sout0_A_0 kernelRun0_A
  dsimp only
  sl_unfold_words
  refine carry_stored (sums_cast ?_) _ _ _ _
  repeat first
    | exact h0
    | refine groupSum_sums (n := _) ?_ (hX _ _)

/-- So does a later point. -/
theorem carry_later (hc0 : ¬cond0_0 i) (x0 : Vec Ideal S128x8192 .f32) (x1 : Vec Ideal S512x512 .bf16) (xs0 : Vec Ideal S128x8 .f32)
    (hx : Block f n x0) (hs : Carry f n xs0) :
    Carry f (n + 8192) (sout0_B_0 c i arg1 harg1 arg2 harg2 arg3 harg3 arg4 harg4 hc0 x0 x1 xs0) := by
  have hX := fun off => @holds_load f n x0 hx arg1 harg1 off
  have h0 := sums_kept hs harg4 inb_S128x8_S128x1_0_0
  unfold sout0_B_0 kernelRun0_B
  dsimp only
  sl_unfold_words
  refine carry_stored (sums_cast ?_) _ _ _ _
  repeat first
    | exact h0
    | refine groupSum_sums (n := _) ?_ (hX _ _)

end

end Cert.KernelIdeal.Scan
-- ==== Proof.Scan.Window.lean ====
/-
  The reference, over the extended reals: a running sum along the second axis, printed as a sum over windows of one row
  and the whole width, each padded on the left so that it ends at the element it is computed for. Entry `(r, j)` is read
  here as the sum of the first `j + 1` elements of row `r`.
-/
module

public import Idealize.ShloMosaic.Lib.Pointwise
public import Mathlib.Algebra.BigOperators.Fin

@[expose] public section

noncomputable section

namespace Cert.Scan

open Idealize.ShloMosaic

/-- The rows of an array of extended reals as a table indexed by natural numbers, zero outside the array. -/
def table {A N : ℕ} (x : Vec Ideal (⟨2, ![A, N]⟩ : Shape) .f32) (r n : ℕ) : EReal :=
  if h : r < A ∧ n < N then x (ix2 ⟨r, h.1⟩ ⟨n, h.2⟩) else 0

/-- Inside the array the table is the array. -/
theorem table_apply {A N : ℕ} (x : Vec Ideal (⟨2, ![A, N]⟩ : Shape) .f32) (r : Fin A) (n : Fin N) :
    table x r.val n.val = x (ix2 r n) := dif_pos ⟨r.isLt, n.isLt⟩

/-- Folding an addition over a list of positions adds the list's sum to the start. -/
theorem foldl_add {ι : Type*} (g : ι → EReal) : ∀ (l : List ι) (v : EReal), l.foldl (fun a n => a + g n) v = v + (l.map g).sum
  | [], v => (add_zero v).symm
  | n :: l, v => by rw [List.foldl_cons, foldl_add g l, List.map_cons, List.sum_cons, add_assoc]

/-- A window of width `M + 1` that ends at place `j`: its places before the row's start give zero, and the rest are the
    row's first `j + 1` elements. -/
theorem sum_window (g : ℕ → EReal) (M j : ℕ) (hj : j < M + 1) :
    (∑ w : Fin (M + 1), if M ≤ j + w.val then g (j + w.val - M) else 0) = ∑ k ∈ Finset.range (j + 1), g k := by
  rw [Fin.sum_univ_eq_sum_range (fun w => if M ≤ j + w then g (j + w - M) else 0) (M + 1),
    show M + 1 = (M - j) + (j + 1) by omega, Finset.sum_range_add,
    Finset.sum_eq_zero fun w hw => if_neg (by have := Finset.mem_range.1 hw; omega), zero_add]
  refine Finset.sum_congr rfl fun k _ => ?_
  rw [if_pos (by omega), show j + (M - j + k) - M = k by omega]

/-- What the window position `w` contributes at `(r, j)`: the element of row `r` it falls on, or zero in the padding. -/
theorem window_term {A M : ℕ} (x : Vec Ideal (⟨2, ![A, M + 1]⟩ : Shape) .f32) (r : Fin A) (j : Fin (M + 1))
    (w : (⟨2, ![1, M + 1]⟩ : Shape).Idx)
    (d : Decidable (∀ a : Fin 2, (![0, M] : Fin 2 → ℕ) a ≤ (ix2 r j a).val * (![1, 1] : Fin 2 → ℕ) a + (w a).val
        ∧ (ix2 r j a).val * (![1, 1] : Fin 2 → ℕ) a + (w a).val - (![0, M] : Fin 2 → ℕ) a < (![A, M + 1] : Fin 2 → ℕ) a)) :
    (if hin : ∀ a : Fin 2, (![0, M] : Fin 2 → ℕ) a ≤ (ix2 r j a).val * (![1, 1] : Fin 2 → ℕ) a + (w a).val
        ∧ (ix2 r j a).val * (![1, 1] : Fin 2 → ℕ) a + (w a).val - (![0, M] : Fin 2 → ℕ) a < (![A, M + 1] : Fin 2 → ℕ) a
      then x (fun a => ⟨_, (hin a).2⟩) else (0 : EReal))
      = if M ≤ j.val + (w 1).val then table x r.val (j.val + (w 1).val - M) else 0 := by
  have hr := r.isLt
  have hj := j.isLt
  have h0 : (w 0).val = 0 := Nat.lt_one_iff.1 (w 0).isLt
  have h1 : (w 1).val < M + 1 := (w 1).isLt
  by_cases hM : M ≤ j.val + (w 1).val
  · rw [if_pos hM, dif_pos fun a => ?_]
    · refine Eq.trans ?_ (table_apply x r ⟨j.val + (w 1).val - M, by omega⟩).symm
      refine congrArg x (funext fun a => Fin.ext ?_)
      match a with
      | ⟨0, _⟩ => show r.val * 1 + (w 0).val - 0 = r.val; omega
      | ⟨1, _⟩ => show j.val * 1 + (w 1).val - M = j.val + (w 1).val - M; omega
    · match a with
      | ⟨0, _⟩ => show 0 ≤ r.val * 1 + (w 0).val ∧ r.val * 1 + (w 0).val - 0 < A; omega
      | ⟨1, _⟩ => show M ≤ j.val * 1 + (w 1).val ∧ j.val * 1 + (w 1).val - M < M + 1; omega
  · rw [if_neg hM, dif_neg fun hin => hM ?_]
    have := (hin 1).1
    change M ≤ j.val * 1 + (w 1).val at this
    omega

/-- The printed running sum at `(r, j)`: the sum of the first `j + 1` elements of row `r`. -/
theorem window_apply {A M N : ℕ} (hN : M + 1 = N) (x : Vec Ideal (⟨2, ![A, N]⟩ : Shape) .f32) (v : EReal) (hv : v = 0)
    (h : (⟨2, ![A, N]⟩ : Shape).ReduceWindows ![1, N] ![1, 1] ![0, M] ![0, 0] (⟨2, ![A, N]⟩ : Shape)) (r : Fin A) (j : Fin N) :
    Ideal.hostReduceWindowAdd ![1, N] ![1, 1] ![0, M] ![0, 0] h x v (ix2 r j)
      = ∑ k ∈ Finset.range (j.val + 1), table x r.val k := by
  subst hN hv
  rw [← sum_window (table x r.val) M j.val j.isLt]
  unfold Ideal.hostReduceWindowAdd Host.reduceWindow
  dsimp only
  refine (foldl_add _ _ _).trans ?_
  rw [zero_add, ← List.ofFn_eq_map, List.sum_ofFn]
  refine Eq.trans (Finset.sum_congr rfl fun n _ => ?_) (Equiv.sum_comp (⟨2, ![1, M + 1]⟩ : Shape).rowMajor.symm fun w =>
    if M ≤ j.val + (w 1).val then table x r.val (j.val + (w 1).val - M) else 0) |>.trans ?_
  · exact window_term x r j ((⟨2, ![1, M + 1]⟩ : Shape).rowMajor.symm n) _
  · rw [sum_idx2]
    exact Fintype.sum_unique _

end Cert.Scan
-- ==== Proof.Scan.Points.lean ====
/-
  The grid: the four points' blocks, the triangle the host makes, and what every point leaves, by induction on the point.
-/
module

public import proofs.«01_k».proof.Proof.Scan.Body
public import proofs.«01_k».proof.Proof.Scan.Window

@[expose] public section

set_option maxRecDepth 16384

noncomputable section

namespace Cert.KernelIdeal.Scan

open Cert.KernelIdeal Cert.KernelIdeal.Gen Idealize.ShloMosaic Idealize.ShloMosaic.TcCoe Idealize.SL.Sem

variable (m : (ℓ : Loc nD τ sig) → Buf (Elt Ideal) ℓ)

/-- The argument's rows on device `c`, as a table. -/
abbrev rows (c : Dev nD) : ℕ → ℕ → EReal := Cert.Scan.table (A := 128) (N := 32768) (m (c.tc.loc main_arg0))

/-- The host's comparison of indices as signed words, `b ≤ a - 1`: the place `(a, b)` is below the diagonal. -/
theorem below_word (a b : Fin 512) :
    (BitVec.ofNat 32 b.val).toInt ≤ (IntOp.addi (BitVec.ofNat 32 a.val) 4294967295#32).toInt ↔ b.val < a.val := by
  have ha := a.isLt
  have hb := b.isLt
  have small : ∀ n : ℕ, n < 512 → (BitVec.ofNat 32 n).toInt = n := fun n hn => by
    have e : (BitVec.ofNat 32 n).toNat = n := by rw [BitVec.toNat_ofNat]; omega
    rw [WordCmp.toInt_eq_toNat_of_lt_half (by rw [e]; omega), e]
  unfold IntOp.addi
  rw [BitVec.toInt_add, small _ ha, small _ hb, show (4294967295#32).toInt = -1 from rfl, Int.bmod]
  omega

/-- The matrix the host hands to the launch: zero below the diagonal, one elsewhere. -/
theorem triangle_host (c : Dev nD) : Triangle (V m c main_v1) := by
  intro a b
  unfold V
  simp only [hostOps0, hostOps0_1, List.flatten_cons, List.flatten_nil, List.cons_append, List.nil_append, List.append_nil, StableHlo.TRef.binary, StableHlo.TRef.nullary, StableHlo.TRef.unary, StableHlo.TRef.ternary, StableHlo.TRef.toBuf, StableHlo.TRef.ofBuf, cast_eq]
  after_results
  pointwise
  rw [WordCmp.cmpi_sge_eq, WordCmp.select_decide, if_congr (below_word a b) rfl rfl]
  by_cases h : b.val < a.val
  · rw [if_pos h, if_neg (Nat.not_le.2 h)]
  · rw [if_neg h, if_pos (Nat.not_lt.1 h)]

/-- Window 0's block at point `t`, read from any array: the array's columns from `8192 t` on. -/
theorem read_block (t : Fin cfg0.N) (ht : t.val < 4) (X : Vec Ideal S128x32768 .f32) (r : Fin 128) (l : Fin 8192) :
    ((cfg0.win 0).blk t).view.read (Elt Ideal) X (ix2 r l) = X (ix2 r ⟨8192 * t.val + l.val, by omega⟩) := by
  have hi : win0_0.index t 0 = 0 ∧ win0_0.index t 1 = t.val :=
    (by decide +kernel : ∀ t : Fin grid0.N, win0_0.index t 0 = 0 ∧ win0_0.index t 1 = t.val) t
  rw [View.read_apply]
  refine congrArg X (funext fun a => Fin.ext ?_)
  match a with
  | ⟨0, _⟩ => show win0_0.index t 0 * 128 + 1 * r.val = r.val; rw [hi.1]; omega
  | ⟨1, _⟩ => show win0_0.index t 1 * 8192 + 1 * l.val = 8192 * t.val + l.val; rw [hi.2]; omega

/-- Window 1's block at every point, read from any matrix: the matrix. -/
theorem read_triangle (t : Fin cfg0.N) (X : Vec Ideal S512x512 .bf16) (a b : Fin 512) :
    ((cfg0.win 1).blk t).view.read (Elt Ideal) X (ix2 a b) = X (ix2 a b) := by
  have hi : win0_1.index t 0 = 0 ∧ win0_1.index t 1 = 0 :=
    (by decide +kernel : ∀ t : Fin grid0.N, win0_1.index t 0 = 0 ∧ win0_1.index t 1 = 0) t
  rw [View.read_apply]
  refine congrArg X (funext fun d => Fin.ext ?_)
  match d with
  | ⟨0, _⟩ => show win0_1.index t 0 * 512 + 1 * a.val = a.val; rw [hi.1]; omega
  | ⟨1, _⟩ => show win0_1.index t 1 * 512 + 1 * b.val = b.val; rw [hi.2]; omega

/-- Point `t`'s input block is the argument's columns `8192 t`, …, `8192 t + 8191`. -/
theorem block_point (c : Dev nD) (t : Fin cfg0.N) : Block (rows m c) (8192 * t.val) (iblk m c 0 t) := by
  have hN : cfg0.N = 4 := N_0
  have ht : t.val < 4 := lt_of_lt_of_eq t.isLt hN
  intro r l
  have hl := l.isLt
  refine (read_block t ht (V m c main_arg0) r l).trans ?_
  rw [V_main_arg0]
  exact (Cert.Scan.table_apply (A := 128) (N := 32768) (m (c.tc.loc main_arg0)) r ⟨8192 * t.val + l.val, by omega⟩).symm

/-- Every point loads the whole triangle. -/
theorem triangle_point (c : Dev nD) (t : Fin cfg0.N) : Triangle (iblk m c 1 t) :=
  fun a b => (read_triangle t (V m c main_v1) a b).trans (triangle_host m c a b)

/-- The first point: its output block holds the running sums of its columns, the scratch array the sums up to its end. -/
theorem outs_first (c : Dev nD) (t : Fin cfg0.N) (h0 : t.val % 4 = 0) (hz : 8192 * t.val = 0) :
    (outsAt0 m c t.val t.isLt).1 = sums (rows m c) (8192 * t.val)
      ∧ Carry (rows m c) (8192 * t.val + 8192) (outsAt0 m c t.val t.isLt).2 := by
  have hb := block_point m c t
  have hu := triangle_point m c t
  have e := outsAt0_A m c t h0
  have ho := out_first c (grid0.coords t) (ms0_0 t) (hs0_0 t) (ms0_1 t) (hs0_1 t) (ms0_2 t) (hs0_2 t) scM0_0 (Memref.isWhole_whole _)
    ((hcond0_0 t).mpr h0) (iblk m c 0 t) (iblk m c 1 t) hb hu hz
  have hc := carry_first c (grid0.coords t) (ms0_0 t) (hs0_0 t) (ms0_1 t) (hs0_1 t) (ms0_2 t) (hs0_2 t) scM0_0 (Memref.isWhole_whole _)
    ((hcond0_0 t).mpr h0) (iblk m c 0 t) (iblk m c 1 t) hb hz
  rw [e]
  dsimp only
  exact ⟨ho, hc⟩

/-- A later point: the same, of what the point before left in the scratch array. -/
theorem outs_later (c : Dev nD) (t : Fin cfg0.N) (h0 : ¬t.val % 4 = 0)
    (hs : Carry (rows m c) (8192 * t.val) (outsAt0 m c (t.val - 1) (Nat.lt_of_le_of_lt (Nat.sub_le _ _) t.isLt)).2) :
    (outsAt0 m c t.val t.isLt).1 = sums (rows m c) (8192 * t.val)
      ∧ Carry (rows m c) (8192 * t.val + 8192) (outsAt0 m c t.val t.isLt).2 := by
  have hb := block_point m c t
  have hu := triangle_point m c t
  have e := outsAt0_B m c t h0
  have ho := out_later c (grid0.coords t) (ms0_0 t) (hs0_0 t) (ms0_1 t) (hs0_1 t) (ms0_2 t) (hs0_2 t) scM0_0 (Memref.isWhole_whole _)
    (fun h => h0 ((hcond0_0 t).mp h)) (iblk m c 0 t) (iblk m c 1 t) _ hb hu hs
  have hc := carry_later c (grid0.coords t) (ms0_0 t) (hs0_0 t) (ms0_1 t) (hs0_1 t) (ms0_2 t) (hs0_2 t) scM0_0 (Memref.isWhole_whole _)
    (fun h => h0 ((hcond0_0 t).mp h)) (iblk m c 0 t) (iblk m c 1 t) _ hb hs
  rw [e]
  dsimp only
  exact ⟨ho, hc⟩

/-- After point `n` the output block holds the running sums of its columns, and the scratch array the sums up to its end. -/
theorem outs_point (c : Dev nD) : ∀ (n : ℕ) (h : n < cfg0.N),
    (outsAt0 m c n h).1 = sums (rows m c) (8192 * n) ∧ Carry (rows m c) (8192 * n + 8192) (outsAt0 m c n h).2
  | 0, h => outs_first m c ⟨0, h⟩ rfl rfl
  | n + 1, h => by
    have hN : cfg0.N = 4 := N_0
    exact outs_later m c ⟨n + 1, h⟩ (by dsimp only; omega) (outs_point c n (Nat.lt_of_succ_lt h)).2

/-- The array the launch leaves, at `(r, j)`: the sum of the first `j + 1` elements of the argument's row `r`. -/
theorem result_apply (c : Dev nD) (r : Fin 128) (j : Fin 32768) :
    Cert.KernelIdeal.Value.G2 m c (ix2 r j) = ∑ k ∈ Finset.range (j.val + 1), rows m c r.val k := by
  have hN : cfg0.N = 4 := N_0
  have hr := r.isLt
  have hj := j.isLt
  have hp : Value.pt2Of (ix2 r j) = j.val / 8192 := by
    show 4 * (r.val / 128 - 0) + 1 * (j.val / 8192 - 0) = j.val / 8192
    omega
  have hlt : Value.pt2Of (ix2 r j) < cfg0.N := by omega
  unfold Value.G2
  rw [dif_pos hlt, ← Value.outsAt0_sweep m c _ hlt, (outs_point m c _ hlt).1]
  unfold sums
  show ∑ k ∈ Finset.range (8192 * Value.pt2Of (ix2 r j) + j.val % 8192 + 1), rows m c (r.val % 128) k = _
  rw [hp, Nat.mod_eq_of_lt hr, Nat.div_add_mod]

end Cert.KernelIdeal.Scan
-- ==== Proof.Scan.Tie.lean ====
/-
  The two sides put together: on the same argument, the array the launch leaves and the array the reference computes are
  equal at every index, both being the sum of the row's elements up to and including it.
-/
module

public import proofs.«01_k».proof.Proof.Scan.Points
public import proofs.«01_k».proof.Proof.Gen.ReferenceIdeal.Run

@[expose] public section

noncomputable section

namespace Cert.Scan

open Idealize.ShloMosaic Idealize.ShloMosaic.TcCoe Idealize.SL.Sem

/-- The reference's result as its run leaves it, of its argument. -/
abbrev reference (x : Vec Ideal Cert.ReferenceIdeal.S128x32768 .f32) : FVec Ideal Cert.ReferenceIdeal.S128x32768 .f32 :=
  Host.reduceWindowAdd ![1, 32768] ![1, 1] ![0, 32767] ![0, 0] x
        (broadcastInDim Cert.ReferenceIdeal.S_ ![] Cert.ReferenceIdeal.Gen.bcast_S_S_ (constant Cert.ReferenceIdeal.S_ .f32 0x00000000#32))
        Cert.ReferenceIdeal.Gen.reduceWindows_S128x32768_S128x32768_w1s1p0_0_w32768s1p32767_0 Cert.ReferenceIdeal.Gen.h_S_

/-- The reference's result at `(r, j)`: the sum of the first `j + 1` elements of row `r` of its argument. -/
theorem reference_apply (x : Vec Ideal Cert.ReferenceIdeal.S128x32768 .f32) (r : Fin 128) (j : Fin 32768) :
    reference x (ix2 r j)
      = ∑ k ∈ Finset.range (j.val + 1), table (A := 128) (N := 32768) x r.val k := by
  unfold reference Host.reduceWindowAdd
  rw [Ideal.hostReduceWindowAdd_def]
  refine window_apply (M := 32767) rfl x _ ?_ _ r j
  pointwise

/-- On memories that agree on the argument, the launch's result is the reference's. -/
theorem result_eq (m : (ℓ : Loc Cert.KernelIdeal.nD Cert.KernelIdeal.τ Cert.KernelIdeal.sig) → Buf (Elt Ideal) ℓ)
    (c : Dev Cert.KernelIdeal.nD) (x : Vec Ideal Cert.ReferenceIdeal.S128x32768 .f32) (hx : m (c.tc.loc Cert.KernelIdeal.main_arg0) = x) :
    Cert.KernelIdeal.Value.G2 m c = reference x := by
  subst hx
  funext i
  obtain ⟨r, j, rfl⟩ : ∃ r j, i = ix2 (n0 := 128) (n1 := 32768) r j := ⟨_, _, eq_ix2 i⟩
  exact (Cert.KernelIdeal.Scan.result_apply m c r j).trans (reference_apply _ r j).symm

end Cert.Scan
-- ==== Proof.lean ====
/-
  The proof of `Cert.Claim`: the three frames from the generated runs, and the value claim over the extended reals, where
  the kernel's result array and the reference's are both the running sums of the argument's rows (Proof/Scan/Tie.lean).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Scan.Tie

@[expose] public section

noncomputable section

namespace Cert.Proof

open Idealize.ShloMosaic Idealize.SL.Sem

/-- The reference keeps its argument and leaves every counter at zero: it has no counters. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the argument, the kernel and the reference leave the same result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  exact (h c).1.trans (Cert.Scan.result_eq m c _ (hagree c).symm).symm

/-- All the claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
